-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x64x576 : Shape := ⟨3, ![8, 64, 576]⟩
abbrev S8192 : Shape := ⟨1, ![8192]⟩
abbrev S8192x64 : Shape := ⟨2, ![8192, 64]⟩
abbrev S_ : Shape := ⟨0, ![]⟩

class Facts : Prop where
  bcast_S_S8x64x576 : S_.BroadcastsInDim S8x64x576 (![] : Fin 0 → Fin S8x64x576.rank)
  bcast_S_S8192x64 : S_.BroadcastsInDim S8192x64 (![] : Fin 0 → Fin S8192x64.rank)

variable [Facts]

def fn {F : FTy → Type} [FloatOps F] (main_arg0 : FVec F S8x64x576 .f32) (main_arg1 : FVec F S8192 .f32) (main_arg2 : FVec F S8192x64 .f32) : IVec S8x64x576 1 × IVec S8192x64 1 :=
  let main_v0 : FVec F S8x64x576 .f32 := Host.absf main_arg0
  let main_cst : FVec F S_ .f32 := constant S_ .f32 0x7F800000#32
  let main_v1 : FVec F S8x64x576 .f32 := broadcastInDim S8x64x576 ![] bcast_S_S8x64x576 main_cst
  let main_v2 : IVec S8x64x576 1 := cmpf .olt main_v0 main_v1
  let main_v3 : FVec F S8192x64 .f32 := Host.absf main_arg2
  let main_cst_0 : FVec F S_ .f32 := constant S_ .f32 0x7F800000#32
  let main_v4 : FVec F S8192x64 .f32 := broadcastInDim S8192x64 ![] bcast_S_S8192x64 main_cst_0
  let main_v5 : IVec S8192x64 1 := cmpf .olt main_v3 main_v4
  (main_v2, main_v5)
-- ==== Kernel.lean ====
abbrev S8x64x576 : Shape := ⟨3, ![8, 64, 576]⟩
abbrev S8192 : Shape := ⟨1, ![8192]⟩
abbrev S8192x64 : Shape := ⟨2, ![8192, 64]⟩
abbrev S8192x1 : Shape := ⟨2, ![8192, 1]⟩
abbrev S8x1x576 : Shape := ⟨3, ![8, 1, 576]⟩
abbrev S1x64x576 : Shape := ⟨3, ![1, 64, 576]⟩
abbrev S1x1x576 : Shape := ⟨3, ![1, 1, 576]⟩
abbrev S64x576 : Shape := ⟨2, ![64, 576]⟩
abbrev S576 : Shape := ⟨1, ![576]⟩
abbrev S1x576 : Shape := ⟨2, ![1, 576]⟩
abbrev S8192x576 : Shape := ⟨2, ![8192, 576]⟩

abbrev nBuf : Space → Nat
  | .hbm => 5
  | .vmem => 9
  | .smem => 0
  | _ => 0

abbrev bufTy : (tb : Table) → Fin (tcTables nBuf tb) → BufTy
  | .hbm, ⟨0, _⟩ => ⟨S8x64x576, .f32⟩
  | .hbm, ⟨1, _⟩ => ⟨S8192, .f32⟩
  | .hbm, ⟨2, _⟩ => ⟨S8192x64, .f32⟩
  | .hbm, ⟨3, _⟩ => ⟨S8192x1, .f32⟩
  | .hbm, ⟨4, _⟩ => ⟨S8x1x576, .i32⟩
  | .local _ .vmem, ⟨0, _⟩ => ⟨S8192x1, .f32⟩
  | .local _ .vmem, ⟨1, _⟩ => ⟨S8192x64, .f32⟩
  | .local _ .vmem, ⟨2, _⟩ => ⟨S1x64x576, .f32⟩
  | .local _ .vmem, ⟨3, _⟩ => ⟨S1x64x576, .f32⟩
  | .local _ .vmem, ⟨4, _⟩ => ⟨S1x1x576, .i32⟩
  | .local _ .vmem, ⟨5, _⟩ => ⟨S1x1x576, .i32⟩
  | .local _ .vmem, ⟨6, _⟩ => ⟨S8192x64, .bf16⟩
  | .local _ .vmem, ⟨7, _⟩ => ⟨S8192x1, .f32⟩
  | .local _ .vmem, ⟨8, _⟩ => ⟨S8192x1, .f32⟩
  | _, _ => ⟨S8x64x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x576 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x64x576 : Shape := ⟨3, ![8, 64, 576]⟩
abbrev S8192 : Shape := ⟨1, ![8192]⟩
abbrev S8192x64 : Shape := ⟨2, ![8192, 64]⟩
abbrev S_ : Shape := ⟨0, ![]⟩
abbrev S8192x1 : Shape := ⟨2, ![8192, 1]⟩
abbrev S8x576x64 : Shape := ⟨3, ![8, 576, 64]⟩
abbrev S4608x64 : Shape := ⟨2, ![4608, 64]⟩
abbrev S4608 : Shape := ⟨1, ![4608]⟩
abbrev S4608x1 : Shape := ⟨2, ![4608, 1]⟩
abbrev S1x8192 : Shape := ⟨2, ![1, 8192]⟩
abbrev S4608x8192 : Shape := ⟨2, ![4608, 8192]⟩
abbrev S64x8192 : Shape := ⟨2, ![64, 8192]⟩
abbrev S8x1x576 : Shape := ⟨3, ![8, 1, 576]⟩

abbrev nBuf : Space → Nat
  | .hbm => 38
  | .vmem => 0
  | .smem => 0
  | _ => 0

abbrev bufTy : (tb : Table) → Fin (tcTables nBuf tb) → BufTy
  | .hbm, ⟨0, _⟩ => ⟨S8x64x576, .f32⟩
  | .hbm, ⟨1, _⟩ => ⟨S8192, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S8192x1, .f32⟩
  | .hbm, ⟨7, _⟩ => ⟨S8192x64, .f32⟩
  | .hbm, ⟨8, _⟩ => ⟨S8192x64, .f32⟩
  | .hbm, ⟨9, _⟩ => ⟨S8x576x64, .f32⟩
  | .hbm, ⟨10, _⟩ => ⟨S4608x64, .f32⟩
  | .hbm, ⟨11, _⟩ => ⟨S4608x64, .f32⟩
  | .hbm, ⟨12, _⟩ => ⟨S_, .f32⟩
  | .hbm, ⟨13, _⟩ => ⟨S4608, .f32⟩
  | .hbm, ⟨14, _⟩ => ⟨S4608x1, .f32⟩
  | .hbm, ⟨15, _⟩ => ⟨S8192x64, .f32⟩
  | .hbm, ⟨16, _⟩ => ⟨S_, .f32⟩
  | .hbm, ⟨17, _⟩ => ⟨S8192, .f32⟩
  | .hbm, ⟨18, _⟩ => ⟨S1x8192, .f32⟩
  | .hbm, ⟨19, _⟩ => ⟨S4608x8192, .f32⟩
  | .hbm, ⟨20, _⟩ => ⟨S4608x8192, .f32⟩
  | .hbm, ⟨21, _⟩ => ⟨S4608x8192, .f32⟩
  | .hbm, ⟨22, _⟩ => ⟨S64x8192, .f32⟩
  | .hbm, ⟨23, _⟩ => ⟨S4608x8192, .f32⟩
  | .hbm, ⟨24, _⟩ => ⟨S_, .f32⟩
  | .hbm, ⟨25, _⟩ => ⟨S4608x8192, .f32⟩
  | .hbm, ⟨26, _⟩ => ⟨S4608x8192, .f32⟩
  | .hbm, ⟨27, _⟩ => ⟨S4608x8192, .f32⟩
  | .hbm, ⟨28, _⟩ => ⟨S_, .f32⟩
  | .hbm, ⟨29, _⟩ => ⟨S4608x8192, .f32⟩
  | .hbm, ⟨30, _⟩ => ⟨S4608x8192, .f32⟩
  | .hbm, ⟨31, _⟩ => ⟨S4608x8192, .f32⟩
  | .hbm, ⟨32, _⟩ => ⟨S4608x8192, .i32⟩
  | .hbm, ⟨33, _⟩ => ⟨S_, .f32⟩
  | .hbm, ⟨34, _⟩ => ⟨S_, .i32⟩
  | .hbm, ⟨35, _⟩ => ⟨S4608, .f32⟩
  | .hbm, ⟨36, _⟩ => ⟨S4608, .i32⟩
  | .hbm, ⟨37, _⟩ => ⟨S8x1x576, .i32⟩
  | _, _ => ⟨S8x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Proof.RefRun.lean ====
/-
  The reference's run, and the value it leaves, as one term of vector operations over its three arguments.
-/
module

public import proofs.«01_k».proof.Defs
public import proofs.«01_k».proof.Proof.Gen.ReferenceIdeal
public import Idealize.ShloMosaic.Lib.Claim
public import Idealize.ShloMosaic.Lib.StableHlo.Run
public import Idealize.ShloMosaic.Lib.StableHlo.RunHlo
public import Idealize.ShloMosaic.Lib.StableHlo.RunRead
public import Idealize.ShloMosaic.Lib.Pipeline.Frame
public import Idealize.ShloMosaic.Lib.Quiescent

@[expose] public section

noncomputable section

namespace Cert.ReferenceIdeal.Nearest

open Cert.ReferenceIdeal Cert.ReferenceIdeal.Gen
open Idealize.ShloMosaic Idealize.ShloMosaic.TcCoe Idealize.SL.Sem Idealize.ShloMosaic.StableHlo

variable {F : FTy → Type} [FloatOps F]

/-- The codebook: each code's summed embedding divided by its usage, the usage held above the small constant. -/
def codes (u : FVec F S8192 .f32) (e : FVec F S8192x64 .f32) : FVec F S8192x64 .f32 :=
  Host.divf e (broadcastInDim S8192x64 ![0, 1] bcast_S8192x1_S8192x64_0_1 (broadcastInDim S8192x1 ![0] bcast_S8192_S8192x1_0
    (maximumf u (broadcastInDim S8192 ![] bcast_S_S8192 (constant S_ .f32 0x3727C5AC#32)))))

/-- The input's columns as rows: position `n` of batch `b` is row `576 * b + n`. -/
def rows (x : FVec F S8x64x576 .f32) : FVec F S4608x64 .f32 :=
  shapeCast S4608x64 (transpose S8x576x64 [0, 2, 1] x transposes_S8x64x576_S8x576x64_0_2_1) shapeCasts_S8x576x64_S4608x64

/-- The squared distance between each row and each code, as the reference computes it. -/
def sqDist (x : FVec F S8x64x576 .f32) (u : FVec F S8192 .f32) (e : FVec F S8192x64 .f32) : FVec F S4608x8192 .f32 :=
  subf
    (addf
      (broadcastInDim S4608x8192 ![0, 1] bcast_S4608x1_S4608x8192_0_1 (broadcastInDim S4608x1 ![0] bcast_S4608_S4608x1_0
        (Host.reduceAdd (mulf (rows x) (rows x)) (constant S_ .f32 0x00000000#32) reducesTo_S4608x64_S4608_d1 h_S_)))
      (broadcastInDim S4608x8192 ![0, 1] bcast_S1x8192_S4608x8192_0_1 (broadcastInDim S1x8192 ![1] bcast_S8192_S1x8192_1
        (Host.reduceAdd (mulf (codes u e) (codes u e)) (constant S_ .f32 0x00000000#32) reducesTo_S8192x64_S8192_d1 h_S_))))
    (mulf (broadcastInDim S4608x8192 ![] bcast_S_S4608x8192 (constant S_ .f32 0x40000000#32))
      (Host.dotGeneral dot_S4608x64_S64x8192_S4608x8192_1_0_0_1_n_n none (rows x)
        (transpose S64x8192 [1, 0] (codes u e) transposes_S8192x64_S64x8192_1_0)))

/-- The distances whose arg-min the reference takes: the square root of the clamped squares. -/
def distances (x : FVec F S8x64x576 .f32) (u : FVec F S8192 .f32) (e : FVec F S8192x64 .f32) : FVec F S4608x8192 .f32 :=
  Host.sqrt (maximumf (sqDist x u e) (broadcastInDim S4608x8192 ![] bcast_S_S4608x8192 (constant S_ .f32 0x00000000#32)))

/-- The value half of the reduction: the least value of each row. -/
def argVal (x : FVec F S4608x8192 .f32) (y : IVec S4608x8192 32) (u : FVec F S_ .f32) (v : IVec S_ 32) : FVec F S4608 .f32 :=
  fun j => (Host.argReduce reducer_argmin_f32_i32 x y u v reducesTo_S4608x8192_S4608_d1 h_S_ j).1
/-- The index half of the reduction. -/
def argIdx (x : FVec F S4608x8192 .f32) (y : IVec S4608x8192 32) (u : FVec F S_ .f32) (v : IVec S_ 32) : IVec S4608 32 :=
  fun j => (Host.argReduce reducer_argmin_f32_i32 x y u v reducesTo_S4608x8192_S4608_d1 h_S_ j).2

/-- The reference's arg-min along the codes, one row at a time. -/
def best (d : FVec F S4608x8192 .f32) : IVec S4608 32 :=
  argIdx d (iotaInDim S4608x8192 32 1) (constant S_ .f32 0x7F800000#32) (constantI S_ 32 0#32)

/-- What the reference's run leaves in its result: the arg-min of every row, reshaped. -/
def result (x : FVec F S8x64x576 .f32) (u : FVec F S8192 .f32) (e : FVec F S8192x64 .f32) : IVec S8x1x576 32 :=
  shapeCast S8x1x576 (best (distances x u e)) shapeCasts_S4608_S8x1x576

/-- The first eight operations: the codebook and the rows. -/
abbrev opsA : List (HloOp τ sig (Elt F)) :=
  [ nullary main_cst (constant S_ .f32 0x3727C5AC#32),
    unary main_cst main_v0 (broadcastInDim S8192 ![] bcast_S_S8192 : (⟨S_, .f32⟩ : BufTy).Contents (Elt F) → (⟨S8192, .f32⟩ : BufTy).Contents (Elt F)),
    binary main_arg1 main_v0 main_v1 (maximumf : (⟨S8192, .f32⟩ : BufTy).Contents (Elt F) → (⟨S8192, .f32⟩ : BufTy).Contents (Elt F) → (⟨S8192, .f32⟩ : BufTy).Contents (Elt F)),
    unary main_v1 main_v2 (broadcastInDim S8192x1 ![0] bcast_S8192_S8192x1_0 : (⟨S8192, .f32⟩ : BufTy).Contents (Elt F) → (⟨S8192x1, .f32⟩ : BufTy).Contents (Elt F)),
    unary main_v2 main_v3 (broadcastInDim S8192x64 ![0, 1] bcast_S8192x1_S8192x64_0_1 : (⟨S8192x1, .f32⟩ : BufTy).Contents (Elt F) → (⟨S8192x64, .f32⟩ : BufTy).Contents (Elt F)),
    binary main_arg2 main_v3 main_v4 (Host.divf : (⟨S8192x64, .f32⟩ : BufTy).Contents (Elt F) → (⟨S8192x64, .f32⟩ : BufTy).Contents (Elt F) → (⟨S8192x64, .f32⟩ : BufTy).Contents (Elt F)),
    unary main_arg0 main_v5 ((transpose S8x576x64 [0, 2, 1] · transposes_S8x64x576_S8x576x64_0_2_1) : (⟨S8x64x576, .f32⟩ : BufTy).Contents (Elt F) → (⟨S8x576x64, .f32⟩ : BufTy).Contents (Elt F)),
    reshape main_v5 main_v6 (rfl : (.f32 : EltTy) = .f32) shapeCasts_S8x576x64_S4608x64 ]

/-- The next twelve: the sum of each row's and each code's squared norm. -/
abbrev opsB : List (HloOp τ sig (Elt F)) :=
  [ binary main_v6 main_v6 main_v7 (mulf : (⟨S4608x64, .f32⟩ : BufTy).Contents (Elt F) → (⟨S4608x64, .f32⟩ : BufTy).Contents (Elt F) → (⟨S4608x64, .f32⟩ : BufTy).Contents (Elt F)),
    nullary main_cst_0 (constant S_ .f32 0x00000000#32),
    binary main_v7 main_cst_0 main_v8 ((fun x v => Host.reduceAdd x v reducesTo_S4608x64_S4608_d1 h_S_) : (⟨S4608x64, .f32⟩ : BufTy).Contents (Elt F) → (⟨S_, .f32⟩ : BufTy).Contents (Elt F) → (⟨S4608, .f32⟩ : BufTy).Contents (Elt F)),
    unary main_v8 main_v9 (broadcastInDim S4608x1 ![0] bcast_S4608_S4608x1_0 : (⟨S4608, .f32⟩ : BufTy).Contents (Elt F) → (⟨S4608x1, .f32⟩ : BufTy).Contents (Elt F)),
    binary main_v4 main_v4 main_v10 (mulf : (⟨S8192x64, .f32⟩ : BufTy).Contents (Elt F) → (⟨S8192x64, .f32⟩ : BufTy).Contents (Elt F) → (⟨S8192x64, .f32⟩ : BufTy).Contents (Elt F)),
    nullary main_cst_1 (constant S_ .f32 0x00000000#32),
    binary main_v10 main_cst_1 main_v11 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v11 main_v12 (broadcastInDim S1x8192 ![1] bcast_S8192_S1x8192_1 : (⟨S8192, .f32⟩ : BufTy).Contents (Elt F) → (⟨S1x8192, .f32⟩ : BufTy).Contents (Elt F)),
    unary main_v9 main_v13 (broadcastInDim S4608x8192 ![0, 1] bcast_S4608x1_S4608x8192_0_1 : (⟨S4608x1, .f32⟩ : BufTy).Contents (Elt F) → (⟨S4608x8192, .f32⟩ : BufTy).Contents (Elt F)),
    unary main_v12 main_v14 (broadcastInDim S4608x8192 ![0, 1] bcast_S1x8192_S4608x8192_0_1 : (⟨S1x8192, .f32⟩ : BufTy).Contents (Elt F) → (⟨S4608x8192, .f32⟩ : BufTy).Contents (Elt F)),
    binary main_v13 main_v14 main_v15 (addf : (⟨S4608x8192, .f32⟩ : BufTy).Contents (Elt F) → (⟨S4608x8192, .f32⟩ : BufTy).Contents (Elt F) → (⟨S4608x8192, .f32⟩ : BufTy).Contents (Elt F)),
    unary main_v4 main_v16 ((transpose S64x8192 [1, 0] · transposes_S8192x64_S64x8192_1_0) : (⟨S8192x64, .f32⟩ : BufTy).Contents (Elt F) → (⟨S64x8192, .f32⟩ : BufTy).Contents (Elt F)) ]

/-- The next nine: the products, the squared distances and the distances. -/
abbrev opsC : List (HloOp τ sig (Elt F)) :=
  [ binary main_v6 main_v16 main_v17 ((fun l r => Host.dotGeneral dot_S4608x64_S64x8192_S4608x8192_1_0_0_1_n_n none l r) : (⟨S4608x64, .f32⟩ : BufTy).Contents (Elt F) → (⟨S64x8192, .f32⟩ : BufTy).Contents (Elt F) → (⟨S4608x8192, .f32⟩ : BufTy).Contents (Elt F)),
    nullary main_cst_2 (constant S_ .f32 0x40000000#32),
    unary main_cst_2 main_v18 (broadcastInDim S4608x8192 ![] bcast_S_S4608x8192 : (⟨S_, .f32⟩ : BufTy).Contents (Elt F) → (⟨S4608x8192, .f32⟩ : BufTy).Contents (Elt F)),
    binary main_v18 main_v17 main_v19 (mulf : (⟨S4608x8192, .f32⟩ : BufTy).Contents (Elt F) → (⟨S4608x8192, .f32⟩ : BufTy).Contents (Elt F) → (⟨S4608x8192, .f32⟩ : BufTy).Contents (Elt F)),
    binary main_v15 main_v19 main_v20 (subf : (⟨S4608x8192, .f32⟩ : BufTy).Contents (Elt F) → (⟨S4608x8192, .f32⟩ : BufTy).Contents (Elt F) → (⟨S4608x8192, .f32⟩ : BufTy).Contents (Elt F)),
    nullary main_cst_3 (constant S_ .f32 0x00000000#32),
    unary main_cst_3 main_v21 (broadcastInDim S4608x8192 ![] bcast_S_S4608x8192 : (⟨S_, .f32⟩ : BufTy).Contents (Elt F) → (⟨S4608x8192, .f32⟩ : BufTy).Contents (Elt F)),
    binary main_v20 main_v21 main_v22 (maximumf : (⟨S4608x8192, .f32⟩ : BufTy).Contents (Elt F) → (⟨S4608x8192, .f32⟩ : BufTy).Contents (Elt F) → (⟨S4608x8192, .f32⟩ : BufTy).Contents (Elt F)),
    unary main_v22 main_v23 (Host.sqrt : (⟨S4608x8192, .f32⟩ : BufTy).Contents (Elt F) → (⟨S4608x8192, .f32⟩ : BufTy).Contents (Elt F)) ]

/-- The last six operations with the reduction's two results as functions: the arg-min and the reshape of it. -/
abbrev opsDg (g₁ : FVec F S4608x8192 .f32 → IVec S4608x8192 32 → FVec F S_ .f32 → IVec S_ 32 → FVec F S4608 .f32)
    (g₂ : FVec F S4608x8192 .f32 → IVec S4608x8192 32 → FVec F S_ .f32 → IVec S_ 32 → IVec S4608 32) :
    List (HloOp τ sig (Elt F)) :=
  [ TRef.nullary main_call0.v0 (iotaInDim S4608x8192 32 1),
    TRef.nullary main_call0.cst (constant S_ .f32 0x7F800000#32),
    TRef.nullary main_call0.c (constantI S_ 32 0#32),
    TRef.quaternary (.of main_v23) main_call0.v0 main_call0.cst main_call0.c main_call0.v1_0 g₁,
    TRef.quaternary (.of main_v23) main_call0.v0 main_call0.cst main_call0.c main_call0.v1_1 g₂,
    reshape main_v24 main_v25 (rfl : (.i32 : EltTy) = .i32) shapeCasts_S4608_S8x1x576 ]

/-- The last six operations. -/
abbrev opsD : List (HloOp τ sig (Elt F)) := opsDg argVal argIdx

/-- The reference is the line of its operations, in four parts. -/
theorem main_eq (c : Dev nD) : main (F := F) c = seq (opsA ++ (opsB ++ (opsC ++ opsD))) := rfl
/-- The reference has no scoped buffer. -/
theorem scopedRefs_eq : (Finset.univ.filter fun b : Ref sig .tc => b.isScoped) = ∅ := by decide
/-- The reference has no scoped semaphore. -/
theorem scopedSems_eq : (Finset.univ.filter fun sm : SemLoc sig => sm.isScoped .tc) = ∅ := by decide
/-- The first part works on the program's buffers only. -/
theorem opsA_sub : (opsA : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., reshape_bufs_sub ..⟩
/-- So does the second part. -/
theorem opsB_sub : (opsB : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub ..⟩
/-- So does the third part. -/
theorem opsC_sub : (opsC : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., unary_bufs_sub ..⟩
/-- So does the last part. -/
theorem opsD_sub : (opsD : List (HloOp τ sig (Elt F))).Forall fun op => op.bufs ⊆ tcRefs τ sig :=
  ⟨nullary_bufs_sub .., nullary_bufs_sub .., nullary_bufs_sub .., quaternary_bufs_sub .., quaternary_bufs_sub .., reshape_bufs_sub ..⟩

variable (V : Valuation τ sig (Elt F))

/-- The first part leaves the codebook. -/
theorem opsA_v4 : after opsA V (Proc.devRef .tc main_v4) = codes (V (Proc.devRef .tc main_arg1)) (V (Proc.devRef .tc main_arg2)) := by
  after_reads_simp
  rfl
/-- The first part leaves the rows. -/
theorem opsA_v6 : after opsA V (Proc.devRef .tc main_v6) = rows (V (Proc.devRef .tc main_arg0)) := by
  after_reads_simp
  rfl

/-- The squared norms' sum: row by row and code by code, from the rows and the codebook. -/
def norms (r : FVec F S4608x64 .f32) (k : FVec F S8192x64 .f32) : FVec F S4608x8192 .f32 :=
  addf
    (broadcastInDim S4608x8192 ![0, 1] bcast_S4608x1_S4608x8192_0_1 (broadcastInDim S4608x1 ![0] bcast_S4608_S4608x1_0
      (Host.reduceAdd (mulf r r) (constant S_ .f32 0x00000000#32) reducesTo_S4608x64_S4608_d1 h_S_)))
    (broadcastInDim S4608x8192 ![0, 1] bcast_S1x8192_S4608x8192_0_1 (broadcastInDim S1x8192 ![1] bcast_S8192_S1x8192_1
      (Host.reduceAdd (mulf k k) (constant S_ .f32 0x00000000#32) reducesTo_S8192x64_S8192_d1 h_S_)))

/-- The second part leaves the sums of the squared norms. -/
theorem opsB_v15 : after opsB V (Proc.devRef .tc main_v15) = norms (V (Proc.devRef .tc main_v6)) (V (Proc.devRef .tc main_v4)) := by
  after_reads_simp
  rfl
/-- The second part keeps the rows. -/
theorem opsB_v6 : after opsB V (Proc.devRef .tc main_v6) = V (Proc.devRef .tc main_v6) := by
  after_reads_simp
/-- The second part leaves the transposed codebook. -/
theorem opsB_v16 : after opsB V (Proc.devRef .tc main_v16) = transpose S64x8192 [1, 0] (V (Proc.devRef .tc main_v4)) transposes_S8192x64_S64x8192_1_0 := by
  after_reads_simp

/-- The distances from the norms' sum, the rows and the transposed codebook. -/
def distOf (s : FVec F S4608x8192 .f32) (r : FVec F S4608x64 .f32) (k : FVec F S64x8192 .f32) : FVec F S4608x8192 .f32 :=
  Host.sqrt (maximumf (subf s (mulf (broadcastInDim S4608x8192 ![] bcast_S_S4608x8192 (constant S_ .f32 0x40000000#32))
      (Host.dotGeneral dot_S4608x64_S64x8192_S4608x8192_1_0_0_1_n_n none r k)))
    (broadcastInDim S4608x8192 ![] bcast_S_S4608x8192 (constant S_ .f32 0x00000000#32)))

/-- The third part leaves the distances. -/
theorem opsC_v23 : after opsC V (Proc.devRef .tc main_v23)
    = distOf (V (Proc.devRef .tc main_v15)) (V (Proc.devRef .tc main_v6)) (V (Proc.devRef .tc main_v16)) := by
  after_reads_simp
  rfl

/-- Storing in the index buffer is the identity. -/
theorem toBuf_v24 (v : (⟨S4608, .i32⟩ : BufTy).Contents (Elt F)) : (TRef.of main_v24 : TRef sig ⟨S4608, .i32⟩).toBuf v = v := rfl
/-- Reading the distance buffer is the identity. -/
theorem ofBuf_v23 (v : (⟨S4608x8192, .f32⟩ : BufTy).Contents (Elt F)) : (TRef.of main_v23 : TRef sig ⟨S4608x8192, .f32⟩).ofBuf v = v := rfl

/-- The last part reshapes whatever the index function gives of the distances. -/
theorem opsDg_v25 (g₁ : FVec F S4608x8192 .f32 → IVec S4608x8192 32 → FVec F S_ .f32 → IVec S_ 32 → FVec F S4608 .f32)
    (g₂ : FVec F S4608x8192 .f32 → IVec S4608x8192 32 → FVec F S_ .f32 → IVec S_ 32 → IVec S4608 32) :
    after (opsDg g₁ g₂) V (Proc.devRef .tc main_v25) = shapeCast S8x1x576 (g₂ (V (Proc.devRef .tc main_v23))
      (iotaInDim S4608x8192 32 1) (constant S_ .f32 0x7F800000#32) (constantI S_ 32 0#32)) shapeCasts_S4608_S8x1x576 := by
  after_reads_simp
  simp only [TRef.ofBuf_toBuf]
  rw [toBuf_v24, ofBuf_v23]
  rfl
/-- The last part leaves the reshaped arg-min of the distances. -/
theorem opsD_v25 : after opsD V (Proc.devRef .tc main_v25) = shapeCast S8x1x576 (best (V (Proc.devRef .tc main_v23))) shapeCasts_S4608_S8x1x576 :=
  opsDg_v25 V argVal argIdx

/-- What the whole line leaves in the result's buffer is `result` of what the argument buffers held. -/
theorem ops_v25 : after (opsA ++ (opsB ++ (opsC ++ opsD))) V (Proc.devRef .tc main_v25)
    = result (V (Proc.devRef .tc main_arg0)) (V (Proc.devRef .tc main_arg1)) (V (Proc.devRef .tc main_arg2)) := by
  rw [after_append, after_append, after_append, opsD_v25, opsC_v23, opsB_v15, opsB_v6, opsB_v16, opsA_v4, opsA_v6]
  unfold result distances sqDist distOf norms
  with_reducible rfl

/-- The line writes no argument. -/
theorem ops_arg {r : Ref sig .tc} (hr : r ∉ [main_cst, main_v0, main_v1, main_v2, main_v3, main_v4, main_v5, main_v6, main_v7,
      main_cst_0, main_v8, main_v9, main_v10, main_cst_1, main_v11, main_v12, main_v13, main_v14, main_v15, main_v16, main_v17,
      main_cst_2, main_v18, main_v19, main_v20, main_cst_3, main_v21, main_v22, main_v23, main_call0_v0, main_call0_cst,
      main_call0_c, main_call0_v1_0, main_v24, main_v25]) :
    after (opsA ++ (opsB ++ (opsC ++ opsD))) V (Proc.devRef .tc r) = V (Proc.devRef .tc r) :=
  after_of_writes_sub _ V (forall_writes_sub_of_map rfl) hr

/-- The reference runs, and its result array ends at `result` of the arguments' contents, the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v25) = result (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := F)) _ _).mono
    (fun _ h c => ⟨(h c main_v25).trans (ops_v25 _), (h c main_arg0).trans (ops_arg _ (by decide)),
      (h c main_arg1).trans (ops_arg _ (by decide)), (h c main_arg2).trans (ops_arg _ (by decide))⟩)
    (run_seq scopedRefs_eq scopedSems_eq (defs (F := F)) main (fun _ => opsA ++ (opsB ++ (opsC ++ opsD))) main_eq
      (fun _ => List.forall_append.mpr ⟨opsA_sub, List.forall_append.mpr ⟨opsB_sub, List.forall_append.mpr ⟨opsC_sub, opsD_sub⟩⟩⟩) m ρ)

/-- The reference runs, keeps its arguments, and ends with every semaphore counter at zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run (defs (F := F)) _ _).mono (fun r h => ⟨fun c => (h c).2, sem_eq_zero_of_no_sems (by decide) r.2⟩) (run m ρ)

end Cert.ReferenceIdeal.Nearest

end
-- ==== Proof.KernelBlock.lean ====
/-
  The kernel's run read as values: what one grid point leaves in the output's block and in the three carried
  buffers, and the whole output array entry by entry.
-/
module

public import proofs.«01_k».proof.Defs
public import proofs.«01_k».proof.Proof.Gen.KernelIdeal.Frame
public import proofs.«01_k».proof.Proof.Gen.KernelIdeal.Value
public import Idealize.ShloMosaic.Lib.Pipeline.Value
public import Idealize.ShloMosaic.Lib.StableHlo.Run
public import Idealize.ShloMosaic.Lib.StableHlo.RunRead
public import Idealize.ShloMosaic.Lib.Tactic
public import Idealize.ShloMosaic.Lib.Pointwise

@[expose] public section

set_option maxRecDepth 16384

noncomputable section

namespace Cert.KernelIdeal.Nearest

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Two zero offsets are the zero function. -/
theorem zero2 : (![0, 0] : Fin 2 → Nat) = fun _ => 0 := funext fun a => by fin_cases a <;> rfl

/-- Three zero offsets are the zero function. -/
theorem zero3 : (![0, 0, 0] : Fin 3 → Nat) = fun _ => 0 := funext fun a => by fin_cases a <;> rfl

/-- What a grid point stores in the output's block, from its block `x` of the input and the three carried buffers:
    the codes `e`, their squared lengths `n` and the row numbers `r`. -/
def answer (x : Vec F S1x64x576 .f32) (e : Vec F S8192x64 .bf16) (n r : Vec F S8192x1 .f32) : Vec F S1x1x576 .i32 :=
  k0_pay1 (k0_pay6 x e n) (k0_pay7 x e n) (k0_pay9 x e n) (k0_pay12 x e n) (k0_pay13 x e n) r

/-- A later point's output block: the answer over the carried buffers. -/
theorem out_B (c : Dev nD) (i : grid0.Coords) (a1 : Memref sig .tc .vmem S8192x1 .f32) (h1 : a1.IsWhole)
    (a2 : Memref sig .tc .vmem S8192x64 .f32) (h2 : a2.IsWhole) (a3 : Memref sig .tc .vmem S1x64x576 .f32) (h3 : a3.IsWhole)
    (a4 : Memref sig .tc .vmem S1x1x576 .i32) (h4 : a4.IsWhole) (a5 : Memref sig .tc .vmem S8192x64 .bf16) (h5 : a5.IsWhole)
    (a6 : Memref sig .tc .vmem S8192x1 .f32) (h6 : a6.IsWhole) (a7 : Memref sig .tc .vmem S8192x1 .f32) (h7 : a7.IsWhole)
    (hc : ¬cond0_0 i) (u : Vec F S8192x1 .f32) (e : Vec F S8192x64 .f32) (x : Vec F S1x64x576 .f32)
    (s0 : Vec F S8192x64 .bf16) (s1 s2 : Vec F S8192x1 .f32) :
    out0_B_3 c i a1 h1 a2 h2 a3 h3 a4 h4 a5 h5 a6 h6 a7 h7 hc u e x s0 s1 s2 = answer x s0 s1 s2 := by
  unfold out0_B_3
  rw [View.read_writes_eq_canon _ _ _ (cover0_B_3 c i a1 h1 a2 h2 a3 h3 a4 h4 a5 h5 a6 h6 a7 h7 hc u e x s0 s1 s2)]
  unfold kernelRun0_B
  dsimp only
  sl_unfold_words
  rw [View.canon_unit_zero zero3]
  unfold answer
  simp only [View.readAt_eq_ld, h3.read_unread, h5.read_unread, h6.read_unread, h7.read_unread,
    View.ld_unit_zero (S := S8192x64) zero2, View.ld_unit_zero (S := S8192x1) zero2, View.ld_unit_zero (S := S1x64x576) zero3]

/-- The first point's output block: the answer over the buffers it has just filled. -/
theorem out_A (c : Dev nD) (i : grid0.Coords) (a1 : Memref sig .tc .vmem S8192x1 .f32) (h1 : a1.IsWhole)
    (a2 : Memref sig .tc .vmem S8192x64 .f32) (h2 : a2.IsWhole) (a3 : Memref sig .tc .vmem S1x64x576 .f32) (h3 : a3.IsWhole)
    (a4 : Memref sig .tc .vmem S1x1x576 .i32) (h4 : a4.IsWhole) (a5 : Memref sig .tc .vmem S8192x64 .bf16) (h5 : a5.IsWhole)
    (a6 : Memref sig .tc .vmem S8192x1 .f32) (h6 : a6.IsWhole) (a7 : Memref sig .tc .vmem S8192x1 .f32) (h7 : a7.IsWhole)
    (hc : cond0_0 i) (u : Vec F S8192x1 .f32) (e : Vec F S8192x64 .f32) (x : Vec F S1x64x576 .f32) :
    out0_A_3 c i a1 h1 a2 h2 a3 h3 a4 h4 a5 h5 a6 h6 a7 h7 hc u e x = answer x (k0_pay3 e u) (k0_pay4 e u) k0_pay5 := by
  unfold out0_A_3
  rw [View.read_writes_eq_canon _ _ _ (cover0_A_3 c i a1 h1 a2 h2 a3 h3 a4 h4 a5 h5 a6 h6 a7 h7 hc u e x)]
  unfold kernelRun0_A
  dsimp only
  sl_unfold_words
  rw [View.canon_unit_zero zero3]
  unfold answer
  simp only [View.readAt_eq_ld, h1.read_unread, h2.read_unread, h3.read_unread,
    View.readCov_unit_zero (S := S8192x64) _ zero2, View.readCov_unit_zero (S := S8192x1) _ zero2,
    View.ld_unit_zero (S := S8192x64) zero2, View.ld_unit_zero (S := S8192x1) zero2, View.ld_unit_zero (S := S1x64x576) zero3]

/-- The codes the first point leaves. -/
theorem scr_A_0 (c : Dev nD) (i : grid0.Coords) (a1 : Memref sig .tc .vmem S8192x1 .f32) (h1 : a1.IsWhole)
    (a2 : Memref sig .tc .vmem S8192x64 .f32) (h2 : a2.IsWhole) (a3 : Memref sig .tc .vmem S1x64x576 .f32) (h3 : a3.IsWhole)
    (a4 : Memref sig .tc .vmem S1x1x576 .i32) (h4 : a4.IsWhole) (a5 : Memref sig .tc .vmem S8192x64 .bf16) (h5 : a5.IsWhole)
    (a6 : Memref sig .tc .vmem S8192x1 .f32) (h6 : a6.IsWhole) (a7 : Memref sig .tc .vmem S8192x1 .f32) (h7 : a7.IsWhole)
    (hc : cond0_0 i) (u : Vec F S8192x1 .f32) (e : Vec F S8192x64 .f32) (x : Vec F S1x64x576 .f32) :
    sout0_A_0 c i a1 h1 a2 h2 a3 h3 a4 h4 a5 h5 a6 h6 a7 h7 hc u e x = k0_pay3 e u := by
  unfold sout0_A_0
  rw [View.read_writes_eq_canon _ _ _ (scover0_A_0 c i a1 h1 a2 h2 a3 h3 a4 h4 a5 h5 a6 h6 a7 h7 hc u e x)]
  unfold kernelRun0_A
  dsimp only
  sl_unfold_words
  rw [View.canon_unit_zero zero2]
  simp only [View.readAt_eq_ld, h1.read_unread, h2.read_unread,
    View.ld_unit_zero (S := S8192x64) zero2, View.ld_unit_zero (S := S8192x1) zero2]

/-- The squared lengths the first point leaves. -/
theorem scr_A_1 (c : Dev nD) (i : grid0.Coords) (a1 : Memref sig .tc .vmem S8192x1 .f32) (h1 : a1.IsWhole)
    (a2 : Memref sig .tc .vmem S8192x64 .f32) (h2 : a2.IsWhole) (a3 : Memref sig .tc .vmem S1x64x576 .f32) (h3 : a3.IsWhole)
    (a4 : Memref sig .tc .vmem S1x1x576 .i32) (h4 : a4.IsWhole) (a5 : Memref sig .tc .vmem S8192x64 .bf16) (h5 : a5.IsWhole)
    (a6 : Memref sig .tc .vmem S8192x1 .f32) (h6 : a6.IsWhole) (a7 : Memref sig .tc .vmem S8192x1 .f32) (h7 : a7.IsWhole)
    (hc : cond0_0 i) (u : Vec F S8192x1 .f32) (e : Vec F S8192x64 .f32) (x : Vec F S1x64x576 .f32) :
    sout0_A_1 c i a1 h1 a2 h2 a3 h3 a4 h4 a5 h5 a6 h6 a7 h7 hc u e x = k0_pay4 e u := by
  unfold sout0_A_1
  rw [View.read_writes_eq_canon _ _ _ (scover0_A_1 c i a1 h1 a2 h2 a3 h3 a4 h4 a5 h5 a6 h6 a7 h7 hc u e x)]
  unfold kernelRun0_A
  dsimp only
  sl_unfold_words
  rw [View.canon_unit_zero zero2]
  simp only [View.readAt_eq_ld, h1.read_unread, h2.read_unread,
    View.ld_unit_zero (S := S8192x64) zero2, View.ld_unit_zero (S := S8192x1) zero2]

/-- The row numbers the first point leaves. -/
theorem scr_A_2 (c : Dev nD) (i : grid0.Coords) (a1 : Memref sig .tc .vmem S8192x1 .f32) (h1 : a1.IsWhole)
    (a2 : Memref sig .tc .vmem S8192x64 .f32) (h2 : a2.IsWhole) (a3 : Memref sig .tc .vmem S1x64x576 .f32) (h3 : a3.IsWhole)
    (a4 : Memref sig .tc .vmem S1x1x576 .i32) (h4 : a4.IsWhole) (a5 : Memref sig .tc .vmem S8192x64 .bf16) (h5 : a5.IsWhole)
    (a6 : Memref sig .tc .vmem S8192x1 .f32) (h6 : a6.IsWhole) (a7 : Memref sig .tc .vmem S8192x1 .f32) (h7 : a7.IsWhole)
    (hc : cond0_0 i) (u : Vec F S8192x1 .f32) (e : Vec F S8192x64 .f32) (x : Vec F S1x64x576 .f32) :
    sout0_A_2 c i a1 h1 a2 h2 a3 h3 a4 h4 a5 h5 a6 h6 a7 h7 hc u e x = k0_pay5 := by
  unfold sout0_A_2
  rw [View.read_writes_eq_canon _ _ _ (scover0_A_2 c i a1 h1 a2 h2 a3 h3 a4 h4 a5 h5 a6 h6 a7 h7 hc u e x)]
  unfold kernelRun0_A
  dsimp only
  sl_unfold_words
  rw [View.canon_unit_zero zero2]

/-- The usage column as the first host step leaves it. -/
def usage (c : Dev nD) : Vec F S8192x1 .f32 := shapeCast S8192x1 (m ((c : Thread nD τ).loc main_arg1)) shapeCasts_S8192_S8192x1

/-- The usage operand holds the usage column. -/
theorem V_main_v0 (c : Dev nD) : V m c main_v0 = usage m c := by
  unfold V hostOps0 usage
  after_reads_simp
  rfl

/-- Every point's usage block is the whole usage column. -/
theorem block_usage (c : Dev nD) (t : Fin cfg0.N) : iblk m c 0 t = usage m c := by
  rw [← V_main_v0 m c]
  unfold iblk
  have hz : ∀ t : Fin cfg0.N, (fun a => win0_0.index t a * main_v0.ty.shape.size a) = fun _ => 0 := by
    intro t; funext a; rcases fin_N0 t with h | h | h | h | h | h | h | h <;> subst h <;> fin_cases a <;> decide
  exact Memref.read_access_unit_zero (Elt F) main_v0 (hz t) (fun a => by rw [congrFun (hz t) a]; simp) (V m c main_v0)

/-- Every point's block of embedding sums is the whole array of them. -/
theorem block_sums (c : Dev nD) (t : Fin cfg0.N) : iblk m c 1 t = m ((c : Thread nD τ).loc main_arg2) := by
  rw [← V_main_arg2 m c]
  unfold iblk
  have hz : ∀ t : Fin cfg0.N, (fun a => win0_1.index t a * main_arg2.ty.shape.size a) = fun _ => 0 := by
    intro t; funext a; rcases fin_N0 t with h | h | h | h | h | h | h | h <;> subst h <;> fin_cases a <;> decide
  exact Memref.read_access_unit_zero (Elt F) main_arg2 (hz t) (fun a => by rw [congrFun (hz t) a]; simp) (V m c main_arg2)

/-- Batch entry `b` of the input, as one block. -/
def slab (x : Vec F S8x64x576 .f32) (b : Fin 8) : Vec F S1x64x576 .f32 := fun i => x (ix3 b (i 1) (i 2))

/-- Point `t`'s block of the input is its batch entry `t`. -/
theorem block_x (c : Dev nD) (t : Fin cfg0.N) (b : Fin 8) (hb : t.val = b.val) :
    iblk m c 2 t = slab (m ((c : Thread nD τ).loc main_arg0)) b := by
  rw [← V_main_arg0 m c]
  have hi : win0_2.index t (0 : Fin 3) = t.val ∧ win0_2.index t (1 : Fin 3) = 0 ∧ win0_2.index t (2 : Fin 3) = 0 :=
    (by decide +kernel : ∀ t : Fin grid0.N, win0_2.index t (0 : Fin 3) = t.val ∧ win0_2.index t (1 : Fin 3) = 0 ∧ win0_2.index t (2 : Fin 3) = 0) t
  obtain ⟨e0, e1, e2⟩ := hi
  funext j
  unfold iblk slab
  rw [View.read_apply]
  show V m c main_arg0 _ = V m c main_arg0 _
  congr 1
  funext a
  apply Fin.ext
  have j0 : (j 0).val < 1 := (j 0).isLt
  match a with
  | ⟨0, _⟩ => show win0_2.index t (0 : Fin 3) * 1 + 1 * (j 0).val = b.val; rw [e0]; omega
  | ⟨1, _⟩ => show win0_2.index t (1 : Fin 3) * 64 + 1 * (j 1).val = (j 1).val; rw [e1]; omega
  | ⟨2, _⟩ => show win0_2.index t (2 : Fin 3) * 576 + 1 * (j 2).val = (j 2).val; rw [e2]; omega

/-- What every point leaves in the three carried buffers: the codes, their squared lengths, the row numbers. -/
def carried (c : Dev nD) : Vec F S8192x64 .bf16 × Vec F S8192x1 .f32 × Vec F S8192x1 .f32 :=
  (k0_pay3 (m ((c : Thread nD τ).loc main_arg2)) (usage m c), k0_pay4 (m ((c : Thread nD τ).loc main_arg2)) (usage m c), k0_pay5)

/-- A later point leaves the carried buffers alone. -/
theorem carried_step (c : Dev nD) (n : ℕ) (h : n + 1 < cfg0.N) :
    (outsAt0 m c (n + 1) h).2 = (outsAt0 m c n (Nat.lt_of_succ_lt h)).2 := by
  have hN : cfg0.N = 8 := N_0
  have hB : ¬(⟨n + 1, h⟩ : Fin cfg0.N).val % 8 = 0 := by dsimp only; omega
  have e := outsAt0_B m c ⟨n + 1, h⟩ hB
  simp only [sout0_B_0, sout0_B_1, sout0_B_2, Nat.add_sub_cancel] at e
  rw [e]

/-- The carried buffers are the same after every point. -/
theorem carried_eq (c : Dev nD) (n : ℕ) (h : n < cfg0.N) : (outsAt0 m c n h).2 = carried m c := by
  induction n with
  | zero =>
    rw [outsAt0_A m c ⟨0, h⟩ rfl]
    unfold carried
    rw [scr_A_0, scr_A_1, scr_A_2, block_usage, block_sums]
  | succ n ih => rw [carried_step, ih]

/-- Point `b`'s output block: the answer for batch entry `b`. -/
theorem block_out (c : Dev nD) (n : ℕ) (h : n < cfg0.N) (b : Fin 8) (hb : n = b.val) :
    (outsAt0 m c n h).1 = answer (slab (m ((c : Thread nD τ).loc main_arg0)) b) (carried m c).1 (carried m c).2.1 (carried m c).2.2 := by
  match n, h, hb with
  | 0, h, hb =>
    rw [outsAt0_A m c ⟨0, h⟩ rfl]
    dsimp only
    rw [out_A, block_usage, block_sums, block_x m c ⟨0, h⟩ b hb]
    rfl
  | n + 1, h, hb =>
    have hN : cfg0.N = 8 := N_0
    have hB : ¬(⟨n + 1, h⟩ : Fin cfg0.N).val % 8 = 0 := by dsimp only; omega
    rw [outsAt0_B m c ⟨n + 1, h⟩ hB]
    dsimp only
    rw [out_B, block_x m c ⟨n + 1, h⟩ b hb]
    show answer _ (outsAt0 m c n _).2.1 (outsAt0 m c n _).2.2.1 (outsAt0 m c n _).2.2.2 = _
    rw [carried_eq]

/-- The output array: entry `(b, 0, n)` is lane `n` of the answer for batch entry `b`. -/
theorem out_eq (c : Dev nD) (b : Fin 8) (n : Fin 576) :
    Value.G3 m c (ix3 b 0 n)
      = answer (slab (m ((c : Thread nD τ).loc main_arg0)) b) (carried m c).1 (carried m c).2.1 (carried m c).2.2 (ix3 0 0 n) := by
  have hN : cfg0.N = 8 := N_0
  have hp : Value.pt3Of (ix3 b 0 n) = b.val := by
    show 1 * (b.val / 1 - 0) + 1 * (0 / 1 - 0) + 1 * (n.val / 576 - 0) = b.val
    have := n.isLt; omega
  have hl : Value.loc3Of (ix3 b 0 n) = ix3 0 0 n := by
    funext a; apply Fin.ext
    have := n.isLt
    match a with
    | ⟨0, _⟩ => show b.val % 1 = 0; omega
    | ⟨1, _⟩ => show 0 % 1 = 0; omega
    | ⟨2, _⟩ => show n.val % 576 = n.val; omega
  have hlt : Value.pt3Of (ix3 b 0 n) < cfg0.N := by rw [hp, hN]; exact b.isLt
  unfold Value.G3
  rw [dif_pos hlt, ← Value.outsAt0_sweep m c _ hlt, block_out m c _ hlt b hp, hl]

end Cert.KernelIdeal.Nearest

end
-- ==== Proof.Least.lean ====
/-
  The scalar mathematics: over real squared distances, the least index among those the kernel's bound lets through is the
  index of the least distance, the first of them where several tie.
-/
module

public import Idealize.ShloMosaic.Lib.Pointwise

@[expose] public section

noncomputable section

namespace Cert.Nearest

open Idealize.ShloMosaic

/-- The growth factor's word: a little above `2⁻²⁴`. -/
abbrev grain : EReal := Ideal.ofBits FTy.f32 0x33800001#32
/-- The word a row that is not admitted counts as: about `10³⁰`. -/
abbrev far : EReal := Ideal.ofBits FTy.f32 0x7149F2CA#32
/-- The word every minimum starts from. -/
abbrev top : EReal := Ideal.ofBits FTy.f32 0x7F800000#32

/-- The small constant usages are held above is a positive real. -/
theorem eps_pos : ∃ r : ℝ, 0 < r ∧ Ideal.ofBits FTy.f32 0x3727C5AC#32 = (r : EReal) :=
  ⟨(10995116 : ℝ) * 2 ^ (-40 : ℤ), by positivity, by simp [Ideal.ofBits, Ideal.ieee, -EReal.coe_mul]⟩

/-- The growth factor is a positive real. -/
theorem grain_pos : ∃ r : ℝ, 0 < r ∧ grain = (r : EReal) :=
  ⟨((8388609 : ℝ) * 2 ^ (-47 : ℤ)), by positivity, by unfold grain; simp [Ideal.ofBits, Ideal.ieee, -EReal.coe_mul]⟩

/-- The word for rows not admitted is a real above every row number. -/
theorem far_big : (8192 : ℝ) ≤ far := by
  unfold far
  simp [Ideal.ofBits, Ideal.ieee, -EReal.coe_mul]
  norm_num

/-- Minima start from the greatest extended real. -/
theorem top_eq : top = ⊤ := by
  unfold top
  simp [Ideal.ofBits, Ideal.ieee, -EReal.coe_mul]

/-- The word of two. -/
theorem two_eq : Ideal.ofBits FTy.f32 0x40000000#32 = ((2 : ℝ) : EReal) := by
  simp [Ideal.ofBits, Ideal.ieee, -EReal.coe_mul]
  norm_num

/-- The word of minus two. -/
theorem neg_two_eq : Ideal.ofBits FTy.f32 0xC0000000#32 = ((-2 : ℝ) : EReal) := by
  simp [Ideal.ofBits, Ideal.ieee, -EReal.coe_mul]
  norm_num

/-- The larger of a real and zero, taken among the extended reals. -/
theorem max_zero (m : ℝ) : max (m : EReal) 0 = ((max m 0 : ℝ) : EReal) :=
  (EReal.coe_strictMono.monotone.map_max (a := m) (b := 0)).symm

/-- One growth of a bound. -/
def grow (c : EReal) : EReal := c + c * grain

/-- A bound replaced by a candidate whose square root stays at or below `s`. -/
def widen (s b c : EReal) : EReal := if Ideal.sqrt c ≤ s then c else b

/-- The bound the kernel compares squared distances against, from their minimum `m`. -/
def bound (m : EReal) : EReal :=
  if 0 < m then
    widen (Ideal.sqrt (max m 0))
      (widen (Ideal.sqrt (max m 0))
        (widen (Ideal.sqrt (max m 0))
          (widen (Ideal.sqrt (max m 0))
            (widen (Ideal.sqrt (max m 0)) (max m 0) (grow (max m 0)))
            (grow (grow (max m 0))))
          (grow (grow (grow (max m 0)))))
        (grow (grow (grow (grow (max m 0))))))
      (grow (grow (grow (grow (grow (max m 0))))))
  else 0

/-- What the kernel answers from one lane's squared distances `d` and the row numbers `r`. -/
def pick (d r : Fin 8192 → EReal) : BitVec 32 :=
  Ideal.fptosi 32 (Finset.univ.fold min top fun c => if d c ≤ bound (Finset.univ.fold min top d) then r c else far)

/-- A growth of a real that is not negative is a real at least as large. -/
theorem grow_real {s : ℝ} (h : 0 ≤ s) : ∃ t : ℝ, s ≤ t ∧ grow s = (t : EReal) := by
  obtain ⟨g, hg, eg⟩ := grain_pos
  refine ⟨s + s * g, by nlinarith [mul_nonneg h hg.le], ?_⟩
  rw [grow, eg]; push_cast; rfl

/-- The square root of a real that is not negative. -/
theorem sqrt_real {s : ℝ} (h : 0 ≤ s) : Ideal.sqrt (s : EReal) = (Real.sqrt s : EReal) := by
  show (if s < 0 then (⊥ : EReal) else _) = _
  rw [if_neg (not_lt.mpr h)]

/-- A candidate at or above `r` never changes the bound `r`. -/
theorem widen_real {r t : ℝ} (hr : 0 ≤ r) (h : r ≤ t) : widen (Ideal.sqrt r) r t = (r : EReal) := by
  unfold widen
  split_ifs with hle
  · rw [sqrt_real hr, sqrt_real (hr.trans h), EReal.coe_le_coe_iff] at hle
    have := (Real.sqrt_le_sqrt_iff hr).mp hle
    rw [le_antisymm this h]
  · rfl

/-- Over the reals the kernel's bound is the clamped minimum: the growths add nothing. -/
theorem bound_real (m : ℝ) : bound m = ((max m 0 : ℝ) : EReal) := by
  unfold bound
  rw [max_zero]
  have h0 : 0 ≤ max m 0 := le_max_right _ _
  obtain ⟨t1, l1, e1⟩ := grow_real h0
  obtain ⟨t2, l2, e2⟩ := grow_real (h0.trans l1)
  obtain ⟨t3, l3, e3⟩ := grow_real ((h0.trans l1).trans l2)
  obtain ⟨t4, l4, e4⟩ := grow_real (((h0.trans l1).trans l2).trans l3)
  obtain ⟨t5, l5, e5⟩ := grow_real ((((h0.trans l1).trans l2).trans l3).trans l4)
  rw [e1, e2, e3, e4, e5, widen_real h0 l1, widen_real h0 (l1.trans l2), widen_real h0 ((l1.trans l2).trans l3),
    widen_real h0 (((l1.trans l2).trans l3).trans l4), widen_real h0 ((((l1.trans l2).trans l3).trans l4).trans l5)]
  split_ifs with h
  · rfl
  · have : m ≤ 0 := by
      have h' := not_lt.mp h
      rw [← EReal.coe_zero, EReal.coe_le_coe_iff] at h'
      exact h'
    rw [max_eq_right this, EReal.coe_zero]

/-- A row number read back from its float is itself. -/
theorem fptosi_row (c : Fin 8192) : Ideal.fptosi 32 ((c.val : ℝ) : EReal) = BitVec.ofNat 32 c.val := by
  have hc := c.isLt
  have h0 : (0 : ℝ) ≤ (c.val : ℝ) := Nat.cast_nonneg _
  rw [Ideal.fptosi, Ideal.toIntClamped_coe, if_pos h0, Int.floor_natCast]
  rw [min_eq_right (by norm_num <;> omega), max_eq_right (by norm_num <;> omega)]
  exact BitVec.ofInt_natCast 32 c.val

/-- The minimum of real squared distances is one of them, and none is below it. -/
theorem fold_min_real (d : Fin 8192 → ℝ) :
    ∃ k, Finset.univ.fold min top (fun c => (d c : EReal)) = (d k : EReal) ∧ ∀ c, d k ≤ d c := by
  obtain ⟨k, -, hk⟩ := Finset.exists_min_image Finset.univ d ⟨0, Finset.mem_univ _⟩
  refine ⟨k, le_antisymm ?_ ?_, fun c => hk c (Finset.mem_univ _)⟩
  · exact Finset.fold_min_le _ |>.mpr (.inr ⟨k, Finset.mem_univ _, le_rfl⟩)
  · refine Finset.le_fold_min _ |>.mpr ⟨by rw [top_eq]; exact le_top, fun c _ => ?_⟩
    exact EReal.coe_le_coe_iff.mpr (hk c (Finset.mem_univ _))

/-- The kernel's answer over real squared distances is the first index of the least distance. -/
theorem pick_eq (d : Fin 8192 → ℝ) (k : Fin 8192)
    (hk : ∀ c, Ideal.sqrt (max (d k : EReal) 0) < Ideal.sqrt (max (d c : EReal) 0)
      ∨ (Ideal.sqrt (max (d k : EReal) 0) = Ideal.sqrt (max (d c : EReal) 0) ∧ k.val ≤ c.val)) :
    pick (fun c => (d c : EReal)) (fun c => ((c.val : ℝ) : EReal)) = BitVec.ofNat 32 k.val := by
  have hs : ∀ c, Ideal.sqrt (max (d c : EReal) 0) = (Real.sqrt (max (d c) 0) : EReal) := fun c => by
    rw [max_zero, sqrt_real (le_max_right _ _)]
  simp only [hs, EReal.coe_lt_coe_iff, EReal.coe_eq_coe_iff] at hk
  obtain ⟨q, eq, hq⟩ := fold_min_real d
  have hle : ∀ c, max (d k) 0 ≤ max (d c) 0 := fun c => by
    rcases hk c with h | h
    · exact (Real.sqrt_lt_sqrt_iff (le_max_right _ _)).mp h |>.le
    · exact ((Real.sqrt_inj (le_max_right _ _) (le_max_right _ _)).mp h.1).le
  have hb : bound (Finset.univ.fold min top fun c => (d c : EReal)) = ((max (d k) 0 : ℝ) : EReal) := by
    rw [eq, bound_real, le_antisymm (max_le_max_right 0 (hq k)) (hle q)]
  unfold pick
  rw [hb, ← fptosi_row]
  refine congrArg (Ideal.fptosi 32) (le_antisymm ?_ ?_)
  · refine Finset.fold_min_le _ |>.mpr (.inr ⟨k, Finset.mem_univ _, ?_⟩)
    rw [if_pos (EReal.coe_le_coe_iff.mpr (le_max_left _ _))]
  · refine Finset.le_fold_min _ |>.mpr ⟨by rw [top_eq]; exact le_top, fun c _ => ?_⟩
    split_ifs with h
    · have h1 : max (d c) 0 ≤ max (d k) 0 := max_le (EReal.coe_le_coe_iff.mp h) (le_max_right _ _)
      rcases hk c with h2 | h2
      · exact absurd (Real.sqrt_le_sqrt h1) (not_le.mpr h2)
      · exact EReal.coe_le_coe_iff.mpr (Nat.cast_le.mpr h2.2)
    · refine le_trans ?_ far_big
      exact EReal.coe_le_coe_iff.mpr (by have := k.isLt; exact_mod_cast this.le)

/-- A sum of reals taken among the extended reals is the sum. -/
theorem sum_real {n : ℕ} (f : Fin n → ℝ) : (∑ k, (f k : EReal)) = ((∑ k, f k : ℝ) : EReal) := by
  induction (Finset.univ : Finset (Fin n)) using Finset.cons_induction with
  | empty => simp
  | cons a s ha ih => rw [Finset.sum_cons, Finset.sum_cons, ih, EReal.coe_add]

/-- The two ways of writing a squared distance, the kernel's and the reference's, are one real. -/
theorem sq_real {n : ℕ} (x e : Fin n → ℝ) : ∃ r : ℝ,
    (∑ k, (x k : EReal) * (x k : EReal) + ∑ k, (e k : EReal) * (e k : EReal) + ∑ k, (e k : EReal) * ((x k : EReal) * ((-2 : ℝ) : EReal)) = (r : EReal))
    ∧ (∑ k, (x k : EReal) * (x k : EReal) + ∑ k, (e k : EReal) * (e k : EReal) - ((2 : ℝ) : EReal) * ∑ k, (x k : EReal) * (e k : EReal) = (r : EReal)) := by
  refine ⟨∑ k, x k * x k + ∑ k, e k * e k + ∑ k, e k * (x k * (-2)), ?_, ?_⟩
  · simp only [← EReal.coe_mul, sum_real, ← EReal.coe_add]
  · simp only [← EReal.coe_mul, sum_real, ← EReal.coe_add, ← EReal.coe_sub]
    congr 1
    rw [sub_eq_add_neg, Finset.mul_sum, ← Finset.sum_neg_distrib]
    congr 1
    exact Finset.sum_congr rfl fun k _ => by ring

/-- An extended real whose absolute value is below the greatest is a real. -/
theorem real_of_abs_lt {a : EReal} (h : max a (-a) < ⊤) : ∃ r : ℝ, a = (r : EReal) := by
  induction a using EReal.rec with
  | bot => simp at h
  | top => simp at h
  | coe r => exact ⟨r, rfl⟩

/-- A real divided by a usage held above the small constant is a real, whatever the usage. -/
theorem code_real (e : ℝ) (u : EReal) : ∃ r : ℝ, Ideal.div (e : EReal) (max u (Ideal.ofBits FTy.f32 0x3727C5AC#32)) = (r : EReal) := by
  obtain ⟨p, hp, ep⟩ := eps_pos
  rw [ep]
  have hpos : (0 : EReal) < max u (p : EReal) := lt_max_of_lt_right (EReal.coe_pos.mpr hp)
  generalize max u (p : EReal) = y at hpos
  unfold Ideal.div
  rw [if_neg hpos.ne']
  induction y using EReal.rec with
  | bot => exact absurd hpos (by simp)
  | top => exact ⟨0, by simp⟩
  | coe r => exact ⟨e * r⁻¹, by rw [EReal.coe_mul, EReal.coe_inv]⟩

end Cert.Nearest

end
-- ==== Proof.Readings.lean ====
/-
  The kernel's and the reference's vector terms read at an index, over the extended reals.
-/
module

public import proofs.«01_k».proof.Proof.KernelBlock
public import proofs.«01_k».proof.Proof.RefRun
public import proofs.«01_k».proof.Proof.Least
public import Idealize.ShloMosaic.Lib.Pointwise

@[expose] public section

set_option maxRecDepth 16384

noncomputable section

namespace Cert.Nearest

open Idealize.ShloMosaic

/-- One entry of a code: the summed embedding over the usage held above the small constant. -/
def entry (e u : EReal) : EReal := Ideal.div e (max u (Ideal.ofBits FTy.f32 0x3727C5AC#32))

section Kernel
open Cert.KernelIdeal Cert.KernelIdeal.Gen Cert.KernelIdeal.Nearest

/-- A code's entry in the kernel. -/
theorem kernel_code (e : Vec Ideal S8192x64 .f32) (u : Vec Ideal S8192x1 .f32) (r : Fin 8192) (k : Fin 64) :
    k0_pay3 e u (ix2 r k) = entry (e (ix2 r k)) (u (ix2 r 0)) := by
  pointwise [k0_pay3, k0_pay2, entry]

/-- A code's squared length in the kernel. -/
theorem kernel_norm (e : Vec Ideal S8192x64 .f32) (u : Vec Ideal S8192x1 .f32) (r : Fin 8192) :
    k0_pay4 e u (ix2 r 0) = ∑ k : Fin 64, entry (e (ix2 r k)) (u (ix2 r 0)) * entry (e (ix2 r k)) (u (ix2 r 0)) := by
  pointwise [k0_pay4, k0_pay2, entry]

/-- A row's number in the kernel, before it is made a float. -/
theorem kernel_row' (r : Fin 8192) : k0_pay5 (F := Ideal) (ix2 r 0) = FloatOps.sitofp (F := Ideal) FTy.f32 (BitVec.ofNat 32 r.val) := by
  pointwise [k0_pay5]

/-- A row's number in the kernel. -/
theorem kernel_row (r : Fin 8192) : k0_pay5 (F := Ideal) (ix2 r 0) = ((r.val : ℝ) : EReal) := by
  refine (kernel_row' r).trans ?_
  have hr := r.isLt
  have h : (BitVec.ofNat 32 r.val).toInt = (r.val : ℤ) := by
    rw [BitVec.toInt_eq_toNat_of_lt (by rw [BitVec.toNat_ofNat]; omega), BitVec.toNat_ofNat, Nat.mod_eq_of_lt (by omega)]
  show (((BitVec.ofNat 32 r.val).toInt : ℝ) : EReal) = _
  rw [h]
  norm_cast

/-- A squared distance in the kernel. -/
theorem kernel_sq (x : Vec Ideal S1x64x576 .f32) (e : Vec Ideal S8192x64 .bf16) (n : Vec Ideal S8192x1 .f32) (r : Fin 8192) (l : Fin 576) :
    k0_pay6 x e n (ix2 r l) = ∑ k : Fin 64, (x (ix3 0 k l) : EReal) * x (ix3 0 k l) + n (ix2 r 0)
      + ∑ k : Fin 64, (e (ix2 r k) : EReal) * ((x (ix3 0 k l) : EReal) * Ideal.ofBits FTy.f32 0xC0000000#32) := by
  pointwise [k0_pay6]

/-- The least of a lane's column. -/
theorem min_vec (v : FVec Ideal S8192x576 .f32) (l : Fin 576) :
    shapeCast S1x576 (multiReduction .minimumf [0] S576 v 0x7F800000#32 reduces_S8192x576_S576 (.inl rfl) rfl : FVec Ideal S576 .f32)
      shapeCasts_S576_S1x576 (ix2 0 l) = Finset.univ.fold min top fun c : Fin 8192 => (v (ix2 c l) : EReal) := by
  pointwise

/-- A lane held above zero. -/
theorem clamp_vec (v : FVec Ideal S1x576 .f32) (l : Fin 576) :
    (maximumf v (broadcast S1x576 (Scalar.ofBits .f32 0x00000000#32)) (ix2 0 l) : EReal) = max (v (ix2 0 l)) 0 := by
  pointwise

/-- A lane's square root. -/
theorem sqrt_vec (v : FVec Ideal S1x576 .f32) (l : Fin 576) : (sqrt v (ix2 0 l) : EReal) = Ideal.sqrt (v (ix2 0 l)) := by
  pointwise

/-- A lane grown by the grain. -/
theorem grow_vec (v : FVec Ideal S1x576 .f32) (l : Fin 576) :
    (addf v (mulf v (broadcast S1x576 (Scalar.ofBits .f32 0x33800001#32))) (ix2 0 l) : EReal) = grow (v (ix2 0 l)) := by
  pointwise [grow]

/-- A lane widened to a candidate when the candidate's root is within the root. -/
theorem widen_vec (s b c : FVec Ideal S1x576 .f32) (l : Fin 576) :
    (select (cmpf .ole (sqrt c) s) c b (ix2 0 l) : EReal) = widen (s (ix2 0 l)) (b (ix2 0 l)) (c (ix2 0 l)) := by
  pointwise [widen]

/-- The least squared distance of a lane. -/
theorem kernel_min (x : Vec Ideal S1x64x576 .f32) (e : Vec Ideal S8192x64 .bf16) (n : Vec Ideal S8192x1 .f32) (l : Fin 576) :
    k0_pay7 x e n (ix2 0 l) = Finset.univ.fold min top fun c : Fin 8192 => (k0_pay6 x e n (ix2 c l) : EReal) := by
  unfold k0_pay7
  exact min_vec _ l

/-- The least squared distance held above zero. -/
theorem kernel_clamp (x : Vec Ideal S1x64x576 .f32) (e : Vec Ideal S8192x64 .bf16) (n : Vec Ideal S8192x1 .f32) (l : Fin 576) :
    k0_pay8 x e n (ix2 0 l) = max (k0_pay7 x e n (ix2 0 l)) (0 : EReal) := by
  unfold k0_pay8
  exact clamp_vec _ l

/-- Its square root. -/
theorem kernel_root (x : Vec Ideal S1x64x576 .f32) (e : Vec Ideal S8192x64 .bf16) (n : Vec Ideal S8192x1 .f32) (l : Fin 576) :
    k0_pay9 x e n (ix2 0 l) = Ideal.sqrt (k0_pay8 x e n (ix2 0 l)) := by
  unfold k0_pay9
  exact sqrt_vec _ l

/-- The first growth of the bound. -/
theorem kernel_grow1 (x : Vec Ideal S1x64x576 .f32) (e : Vec Ideal S8192x64 .bf16) (n : Vec Ideal S8192x1 .f32) (l : Fin 576) :
    k0_pay10 x e n (ix2 0 l) = grow (k0_pay8 x e n (ix2 0 l)) := by
  unfold k0_pay10
  exact grow_vec _ l

/-- The second growth of the bound. -/
theorem kernel_grow2 (x : Vec Ideal S1x64x576 .f32) (e : Vec Ideal S8192x64 .bf16) (n : Vec Ideal S8192x1 .f32) (l : Fin 576) :
    k0_pay11 x e n (ix2 0 l) = grow (k0_pay10 x e n (ix2 0 l)) := by
  unfold k0_pay11
  exact grow_vec _ l

/-- The third growth of the bound. -/
theorem kernel_grow3 (x : Vec Ideal S1x64x576 .f32) (e : Vec Ideal S8192x64 .bf16) (n : Vec Ideal S8192x1 .f32) (l : Fin 576) :
    k0_pay12 x e n (ix2 0 l) = grow (k0_pay11 x e n (ix2 0 l)) := by
  unfold k0_pay12
  exact grow_vec _ l

/-- The bound after three growths. -/
theorem kernel_bound3 (x : Vec Ideal S1x64x576 .f32) (e : Vec Ideal S8192x64 .bf16) (n : Vec Ideal S8192x1 .f32) (l : Fin 576) :
    k0_pay13 x e n (ix2 0 l) = widen (k0_pay9 x e n (ix2 0 l))
      (widen (k0_pay9 x e n (ix2 0 l)) (widen (k0_pay9 x e n (ix2 0 l)) (k0_pay8 x e n (ix2 0 l)) (k0_pay10 x e n (ix2 0 l)))
        (k0_pay11 x e n (ix2 0 l))) (k0_pay12 x e n (ix2 0 l)) := by
  unfold k0_pay13
  rw [widen_vec, widen_vec, widen_vec]

/-- A lane's answer from the values computed before it. -/
theorem kernel_last (d : Vec Ideal S8192x576 .f32) (m s c b : Vec Ideal S1x576 .f32) (r : Vec Ideal S8192x1 .f32) (l : Fin 576) :
    k0_pay1 d m s c b r (ix3 0 0 l) = Ideal.fptosi 32 (Finset.univ.fold min top fun k : Fin 8192 =>
      if (d (ix2 k l) : EReal) ≤ (if (0 : EReal) < m (ix2 0 l) then
          widen (s (ix2 0 l)) (widen (s (ix2 0 l)) (b (ix2 0 l)) (grow (c (ix2 0 l)))) (grow (grow (c (ix2 0 l)))) else 0)
      then r (ix2 k 0) else far) := by
  pointwise [k0_pay1, widen, grow]
  rfl

/-- A lane's answer: the pick over the lane's squared distances. -/
theorem answer_apply (x : Vec Ideal S1x64x576 .f32) (e : Vec Ideal S8192x64 .bf16) (n r : Vec Ideal S8192x1 .f32) (l : Fin 576) :
    answer x e n r (ix3 0 0 l) = pick (fun c => k0_pay6 x e n (ix2 c l)) (fun c => r (ix2 c 0)) := by
  unfold answer
  rw [kernel_last, kernel_bound3, kernel_grow3, kernel_grow2, kernel_grow1, kernel_root, kernel_clamp, kernel_min]
  unfold pick bound
  with_reducible rfl

end Kernel

section Ref
open Cert.ReferenceIdeal Cert.ReferenceIdeal.Nearest

/-- A row's entry in the reference. -/
theorem ref_rows (x : FVec Ideal S8x64x576 .f32) (b : Fin 8) (l : Fin 576) (k : Fin 64) (h : b.val * 576 + l.val < 4608) :
    rows x (ix2 ⟨b.val * 576 + l.val, h⟩ k) = x (ix3 b k l) := by
  pointwise [rows]

/-- A code's entry in the reference. -/
theorem ref_codes (u : FVec Ideal S8192 .f32) (e : FVec Ideal S8192x64 .f32) (r : Fin 8192) (k : Fin 64) :
    codes u e (ix2 r k) = entry (e (ix2 r k)) (u (ix1 r)) := by
  pointwise [codes, entry]

/-- A squared distance in the reference. -/
theorem ref_sq (x : FVec Ideal S8x64x576 .f32) (u : FVec Ideal S8192 .f32) (e : FVec Ideal S8192x64 .f32) (j : Fin 4608) (r : Fin 8192) :
    sqDist x u e (ix2 j r) = ∑ k : Fin 64, (rows x (ix2 j k) : EReal) * rows x (ix2 j k)
      + ∑ k : Fin 64, (codes u e (ix2 r k) : EReal) * codes u e (ix2 r k)
      - Ideal.ofBits FTy.f32 0x40000000#32 * ∑ k : Fin 64, (rows x (ix2 j k) : EReal) * codes u e (ix2 r k) := by
  unfold sqDist
  generalize rows x = a
  generalize codes u e = c
  pointwise

/-- A distance in the reference. -/
theorem ref_dist (x : FVec Ideal S8x64x576 .f32) (u : FVec Ideal S8192 .f32) (e : FVec Ideal S8192x64 .f32) (j : Fin 4608) (r : Fin 8192) :
    (distances x u e (ix2 j r) : EReal) = Ideal.sqrt (max (sqDist x u e (ix2 j r)) 0) := by
  unfold distances
  generalize sqDist x u e = v
  pointwise

/-- The result's reshape: entry `(b, 0, l)` is row `576 * b + l`. -/
theorem ref_place (v : IVec S4608 32) (b : Fin 8) (l : Fin 576) :
    shapeCast S8x1x576 v Cert.ReferenceIdeal.Gen.shapeCasts_S4608_S8x1x576 (ix3 b 0 l)
      = v (ix1 ⟨b.val * 576 + l.val, by have := b.isLt; have := l.isLt; omega⟩) := by
  pointwise

end Ref

end Cert.Nearest

end
-- ==== Proof.Argmin.lean ====
/-
  The reference's arg-min read over the extended reals: the first index of a row's least value.
-/
module

public import proofs.«01_k».proof.Proof.RefRun
public import Idealize.ShloMosaic.Lib.Pointwise
public import Idealize.ShloMosaic.PureOps.Reduce
public import Idealize.ShloMosaic.PureOps.Ideal.Laws

@[expose] public section

set_option maxRecDepth 16384

noncomputable section

namespace Cert.Nearest

open Cert.ReferenceIdeal Cert.ReferenceIdeal.Gen Idealize.ShloMosaic

/-- A pair of a value and an index comes before another: a smaller value, or the same value and no larger index. -/
def Before (p q : EReal × BitVec 32) : Prop := p.1 < q.1 ∨ (p.1 = q.1 ∧ p.2.toInt ≤ q.2.toInt)

/-- A pair comes before itself. -/
theorem Before.refl (p : EReal × BitVec 32) : Before p p := .inr ⟨rfl, le_rfl⟩

/-- The order of pairs is transitive. -/
theorem Before.trans {p q r : EReal × BitVec 32} (h : Before p q) (h' : Before q r) : Before p r := by
  unfold Before at *
  rcases h with h | ⟨h1, h2⟩ <;> rcases h' with h' | ⟨h1', h2'⟩
  · exact .inl (h.trans h')
  · exact .inl (h1' ▸ h)
  · exact .inl (h1 ▸ h')
  · exact .inr ⟨h1.trans h1', h2.trans h2'⟩

/-- One step of the reduction keeps one of its two pairs. -/
theorem reducer_step (a b : EReal × BitVec 32) :
    (reducer_argmin_f32_i32 (F := Ideal) a b = a ∨ reducer_argmin_f32_i32 (F := Ideal) a b = b)
    ∧ Before (reducer_argmin_f32_i32 (F := Ideal) a b) a ∧ Before (reducer_argmin_f32_i32 (F := Ideal) a b) b := by
  obtain ⟨x, i⟩ := a
  obtain ⟨y, j⟩ := b
  rcases lt_trichotomy x y with h | h | h
  · have e : reducer_argmin_f32_i32 (F := Ideal) (x, i) (y, j) = (x, i) := by
      simp [reducer_argmin_f32_i32, Ideal.cmpf_def, Ideal.cmp, Scalar.select, IntOp.ori, IntOp.andi, IntOp.cmpi, h, h.ne]
    rw [e]
    exact ⟨.inl rfl, Before.refl _, .inl h⟩
  · subst h
    by_cases hi : i.slt j
    · have e : reducer_argmin_f32_i32 (F := Ideal) (x, i) (x, j) = (x, i) := by
        simp [reducer_argmin_f32_i32, Ideal.cmpf_def, Ideal.cmp, Scalar.select, IntOp.ori, IntOp.andi, IntOp.cmpi, hi]
      rw [e]
      exact ⟨.inl rfl, Before.refl _, .inr ⟨rfl, (by simpa [BitVec.slt] using hi : i.toInt < j.toInt).le⟩⟩
    · have e : reducer_argmin_f32_i32 (F := Ideal) (x, i) (x, j) = (x, j) := by
        simp [reducer_argmin_f32_i32, Ideal.cmpf_def, Ideal.cmp, Scalar.select, IntOp.ori, IntOp.andi, IntOp.cmpi, hi]
      rw [e]
      exact ⟨.inr rfl, .inr ⟨rfl, by simpa [BitVec.slt] using hi⟩, Before.refl _⟩
  · have e : reducer_argmin_f32_i32 (F := Ideal) (x, i) (y, j) = (y, j) := by
      simp [reducer_argmin_f32_i32, Ideal.cmpf_def, Ideal.cmp, Scalar.select, IntOp.ori, IntOp.andi, IntOp.cmpi, h.not_gt, h.ne']
    rw [e]
    exact ⟨.inr rfl, .inl h, Before.refl _⟩

/-- The reduction over a list keeps one of the pairs it meets, and that pair comes before all of them. -/
theorem reducer_fold (l : List (EReal × BitVec 32)) (p : EReal × BitVec 32) :
    (l.foldl (reducer_argmin_f32_i32 (F := Ideal)) p = p ∨ l.foldl (reducer_argmin_f32_i32 (F := Ideal)) p ∈ l)
    ∧ Before (l.foldl (reducer_argmin_f32_i32 (F := Ideal)) p) p
    ∧ ∀ q ∈ l, Before (l.foldl (reducer_argmin_f32_i32 (F := Ideal)) p) q := by
  induction l generalizing p with
  | nil => exact ⟨.inl rfl, Before.refl _, fun q hq => absurd hq (List.not_mem_nil)⟩
  | cons a l ih =>
    rw [List.foldl_cons]
    obtain ⟨h1, h2, h3⟩ := ih (reducer_argmin_f32_i32 (F := Ideal) p a)
    obtain ⟨s1, s2, s3⟩ := reducer_step p a
    refine ⟨?_, h2.trans s2, fun q hq => ?_⟩
    · rcases h1 with h1 | h1
      · rcases s1 with s1 | s1
        · exact .inl (h1.trans s1)
        · exact .inr (List.mem_cons.mpr (.inl (h1.trans s1)))
      · exact .inr (List.mem_cons.mpr (.inr h1))
    · rcases List.mem_cons.mp hq with rfl | hq
      · exact h2.trans s3
      · exact h3 q hq

/-- A code's number read as a signed word is itself. -/
theorem toInt_code (k : Fin 8192) : (BitVec.ofNat 32 k.val).toInt = (k.val : ℤ) := by
  have := k.isLt
  rw [BitVec.toInt_eq_toNat_of_lt (by rw [BitVec.toNat_ofNat]; omega), BitVec.toNat_ofNat, Nat.mod_eq_of_lt (by omega)]

/-- The pairs a reduction meets at an index are those of the source indices that drop to it. -/
theorem mem_fiber_iff {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  simp only [List.mem_map, List.mem_filter, List.mem_finRange, true_and, decide_eq_true_eq]
  constructor
  · rintro ⟨n, hn, rfl⟩
    exact ⟨s.rowMajor.symm n, hn, rfl⟩
  · rintro ⟨i, hi, rfl⟩
    exact ⟨s.rowMajor i, by rw [Equiv.symm_apply_apply]; exact hi, by rw [Equiv.symm_apply_apply]⟩

/-- The source indices that drop to row `j` are those of row `j`. -/
theorem drop_iff (j : Fin 4608) (i : S4608x8192.Idx) :
    reducesTo_S4608x8192_S4608_d1.drop i = ix1 j ↔ ∃ k : Fin 8192, ix2 j k = i :=
  Shape.ReducesTo.fiber_r2_a1 reducesTo_S4608x8192_S4608_d1 (ix1 j) i

/-- The index operand of the reduction holds the codes' numbers. -/
theorem iota_apply (j : Fin 4608) (k : Fin 8192) : iotaInDim S4608x8192 32 1 (ix2 j k) = BitVec.ofNat 32 k.val := by
  pointwise

/-- The pairs a row's reduction meets are the row's values with the codes' numbers. -/
theorem mem_fiber (d : S4608x8192.Idx → EReal) (j : Fin 4608) (p : EReal × BitVec 32) :
    p ∈ Host.argReduceFiber d (iotaInDim S4608x8192 32 1) reducesTo_S4608x8192_S4608_d1 (ix1 j)
      ↔ ∃ k : Fin 8192, p = (d (ix2 j k), BitVec.ofNat 32 k.val) := by
  rw [mem_fiber_iff]
  constructor
  · rintro ⟨i, hi, rfl⟩
    obtain ⟨k, rfl⟩ := (drop_iff j i).mp hi
    exact ⟨k, by rw [iota_apply]⟩
  · rintro ⟨k, rfl⟩
    exact ⟨ix2 j k, (drop_iff j _).mpr ⟨k, rfl⟩, by rw [iota_apply]⟩

/-- The reduction over all of a row's pairs, from the greatest value at index zero, ends at the first index of the
    row's least value. -/
theorem fold_spec (l : List (EReal × BitVec 32)) (f : Fin 8192 → EReal)
    (hm : ∀ p, p ∈ l ↔ ∃ k : Fin 8192, p = (f k, BitVec.ofNat 32 k.val)) : ∃ k : Fin 8192,
    (l.foldl (reducer_argmin_f32_i32 (F := Ideal)) ((⊤ : EReal), 0#32)).2 = BitVec.ofNat 32 k.val
    ∧ ∀ c : Fin 8192, f k < f c ∨ (f k = f c ∧ k.val ≤ c.val) := by
  obtain ⟨h1, h2, h3⟩ := reducer_fold l ((⊤ : EReal), 0#32)
  generalize l.foldl (reducer_argmin_f32_i32 (F := Ideal)) ((⊤ : EReal), 0#32) = q at h1 h2 h3
  have hk : ∃ k : Fin 8192, q = (f k, BitVec.ofNat 32 k.val) := by
    rcases h1 with h1 | h1
    · refine ⟨0, ?_⟩
      have h0 := h3 _ ((hm _).mpr ⟨0, rfl⟩)
      rw [h1] at h0
      rcases h0 with h0 | h0
      · exact absurd h0 (not_lt.mpr le_top)
      · exact h1.trans (Prod.ext h0.1 rfl)
    · exact (hm _).mp h1
  obtain ⟨k, rfl⟩ := hk
  refine ⟨k, rfl, fun c => ?_⟩
  rcases h3 _ ((hm _).mpr ⟨c, rfl⟩) with h | ⟨h, h'⟩
  · exact .inl h
  · refine .inr ⟨h, ?_⟩
    dsimp only at h'
    rw [toInt_code, toInt_code] at h'
    exact_mod_cast h'

/-- The value the reference's reduction starts from is the greatest extended real. -/
theorem start_eq (i : S_.Idx) : (constant S_ .f32 0x7F800000#32 : FVec Ideal S_ .f32) i = (⊤ : EReal) := by
  show Ideal.ofBits FTy.f32 0x7F800000#32 = ⊤
  simp [Ideal.ofBits, Ideal.ieee, -EReal.coe_mul]

/-- Over the extended reals the index a float arg-min ends at is that of the left fold of its step over the pairs it
    meets. -/
theorem argReduce_snd {s t u : Shape} {axes : List (Fin s.rank)} {β : Type}
    (f : Ideal .f32 × β → Ideal .f32 × β → Ideal .f32 × β) (x : FVec Ideal s .f32) (y : s.Idx → β) (ix : u.Idx → Ideal .f32)
    (iy : u.Idx → β) (h : s.ReducesTo axes t) (hu : 0 < u.numel) (j : t.Idx) (p : Ideal .f32 × β)
    (hp : (ix (Shape.Idx.first hu), iy (Shape.Idx.first hu)) = p) :
    (Host.argReduce f x y ix iy h hu j).2 = ((Host.argReduceFiber x y h j).foldl f p).2 := by
  subst hp
  rw [Ideal.argReduce_eq_reduce2, Host.reduce2_eq_foldl_fiber]

/-- The pair the reference's reduction starts from. -/
theorem start_pair : ((constant S_ .f32 0x7F800000#32 : FVec Ideal S_ .f32) (Shape.Idx.first h_S_), constantI S_ 32 0#32 (Shape.Idx.first h_S_))
    = ((⊤ : EReal), 0#32) := Prod.ext (start_eq (Shape.Idx.first h_S_)) rfl

/-- The reference's index function is the reduction's second component. -/
theorem argIdx_eq : Cert.ReferenceIdeal.Nearest.argIdx (F := Ideal)
    = fun x y u v j => (Host.argReduce reducer_argmin_f32_i32 x y u v reducesTo_S4608x8192_S4608_d1 h_S_ j).2 := rfl

/-- The reference's arg-min is its index function at the codes' numbers and the starting pair. -/
theorem best_argIdx (d : FVec Ideal S4608x8192 .f32) (j : S4608.Idx) :
    Cert.ReferenceIdeal.Nearest.best d j = Cert.ReferenceIdeal.Nearest.argIdx d (iotaInDim S4608x8192 32 1)
      (constant S_ .f32 0x7F800000#32) (constantI S_ 32 0#32) j := rfl

/-- The reference's reduction of a row is the left fold of its step over the row's pairs. -/
theorem best_eq (d : FVec Ideal S4608x8192 .f32) (j : S4608.Idx) :
    Cert.ReferenceIdeal.Nearest.best d j
      = ((Host.argReduceFiber d (iotaInDim S4608x8192 32 1) reducesTo_S4608x8192_S4608_d1 j).foldl
          (reducer_argmin_f32_i32 (F := Ideal)) ((⊤ : EReal), 0#32)).2 :=
  (best_argIdx d j).trans ((congrFun (congrFun (congrFun (congrFun (congrFun argIdx_eq d) _) _) _) j).trans
    (argReduce_snd _ _ _ _ _ _ _ _ _ start_pair))

/-- The reference's arg-min of a row is the first index of the row's least value. -/
theorem best_spec (d : FVec Ideal S4608x8192 .f32) (j : Fin 4608) : ∃ k : Fin 8192,
    Cert.ReferenceIdeal.Nearest.best d (ix1 j) = BitVec.ofNat 32 k.val
    ∧ ∀ c : Fin 8192, (d (ix2 j k) : EReal) < d (ix2 j c) ∨ ((d (ix2 j k) : EReal) = d (ix2 j c) ∧ k.val ≤ c.val) := by
  rw [best_eq]
  exact fold_spec _ (fun k => d (ix2 j k)) (mem_fiber d j)

end Cert.Nearest

end
-- ==== Proof.Equal.lean ====
/-
  The kernel's result against the reference's: on finite inputs they are the same array.
-/
module

public import proofs.«01_k».proof.Proof.Readings
public import proofs.«01_k».proof.Proof.Argmin
public import proofs.«01_k».proof.Proof.Gen.Pre_finite_inputs

@[expose] public section

set_option maxRecDepth 16384

noncomputable section

namespace Cert.Nearest

open Idealize.ShloMosaic Idealize.ShloMosaic.TcCoe Idealize.SL.Sem

/-- The comparison with infinity, read back from its bit. -/
theorem below_top {a : EReal} (h : BitVec.ofBool (decide (max a (-a) < Ideal.ofBits FTy.f32 0x7F800000#32)) = 1#1) : max a (-a) < ⊤ := by
  rw [show Ideal.ofBits FTy.f32 0x7F800000#32 = (⊤ : EReal) from top_eq] at h
  by_contra hn
  rw [decide_eq_false hn] at h
  exact absurd h (by decide)

/-- An entry of the input whose absolute value compares below infinity is a real. -/
theorem finite_x (x : FVec Ideal Cert.Pre_finite_inputs.S8x64x576 .f32) (u : FVec Ideal Cert.Pre_finite_inputs.S8192 .f32)
    (e : FVec Ideal Cert.Pre_finite_inputs.S8192x64 .f32)
    (h : (Cert.Pre_finite_inputs.fn x u e).1 = fun _ => 1#1) (b : Fin 8) (k : Fin 64) (l : Fin 576) :
    ∃ r : ℝ, (x (ix3 b k l) : EReal) = r := by
  have hi := congrFun h (ix3 b k l)
  refine real_of_abs_lt ?_
  revert hi
  pointwise [Cert.Pre_finite_inputs.fn]
  exact below_top

/-- An entry of the summed embeddings whose absolute value compares below infinity is a real. -/
theorem finite_e (x : FVec Ideal Cert.Pre_finite_inputs.S8x64x576 .f32) (u : FVec Ideal Cert.Pre_finite_inputs.S8192 .f32)
    (e : FVec Ideal Cert.Pre_finite_inputs.S8192x64 .f32)
    (h : (Cert.Pre_finite_inputs.fn x u e).2 = fun _ => 1#1) (r : Fin 8192) (k : Fin 64) :
    ∃ q : ℝ, (e (ix2 r k) : EReal) = q := by
  have hi := congrFun h (ix2 r k)
  refine real_of_abs_lt ?_
  revert hi
  pointwise [Cert.Pre_finite_inputs.fn]
  exact below_top

section
open Cert.KernelIdeal Cert.KernelIdeal.Gen Cert.KernelIdeal.Nearest

/-- The usage column's entries. -/
theorem usage_apply (m : (ℓ : Loc nD τ sig) → Buf (Elt Ideal) ℓ) (c : Dev nD) (r : Fin 8192) :
    usage m c (ix2 r 0) = m ((c : Thread nD τ).loc main_arg1) (ix1 r) := by
  unfold usage
  generalize m ((c : Thread nD τ).loc main_arg1) = v
  revert v
  show ∀ v : FVec Ideal S8192 .f32, shapeCast S8192x1 v shapeCasts_S8192_S8192x1 (ix2 r 0) = v (ix1 r)
  intro v
  pointwise

end

/-- The kernel's squared distance of a code and a lane, over real inputs: one real, which the reference's term is too. -/
theorem same_sq (X : Fin 64 → ℝ) (E : Fin 64 → ℝ) (u : EReal) :
    ∃ d : ℝ,
      (∑ k, (X k : EReal) * X k + ∑ k, entry (E k) u * entry (E k) u
          + ∑ k, entry (E k) u * ((X k : EReal) * Ideal.ofBits FTy.f32 0xC0000000#32) = d)
      ∧ (∑ k, (X k : EReal) * X k + ∑ k, entry (E k) u * entry (E k) u
          - Ideal.ofBits FTy.f32 0x40000000#32 * ∑ k, (X k : EReal) * entry (E k) u = d) := by
  choose g hg using fun k => code_real (E k) u
  have hg' : ∀ k, entry (E k) u = (g k : EReal) := hg
  simp only [hg', two_eq, neg_two_eq]
  exact sq_real X g

section
open Cert.KernelIdeal Cert.KernelIdeal.Gen Cert.KernelIdeal.Nearest

/-- **On real inputs a lane's answer is the reference's.** It is the first index of the least distance. -/
theorem lane_eq (x : FVec Ideal S8x64x576 .f32) (u : FVec Ideal S8192 .f32) (e : FVec Ideal S8192x64 .f32) (v : FVec Ideal S8192x1 .f32)
    (hv : ∀ r : Fin 8192, v (ix2 r 0) = u (ix1 r))
    (hx : ∀ b k l, ∃ r : ℝ, (x (ix3 b k l) : EReal) = r) (he : ∀ r k, ∃ q : ℝ, (e (ix2 r k) : EReal) = q) (b : Fin 8) (l : Fin 576) :
    answer (slab (F := Ideal) x b) (k0_pay3 (F := Ideal) e v) (k0_pay4 (F := Ideal) e v) (k0_pay5 (F := Ideal)) (ix3 0 0 l) = Cert.ReferenceIdeal.Nearest.result x u e (ix3 b 0 l) := by
  choose X hX using hx
  choose E hE using he
  have hlt : b.val * 576 + l.val < 4608 := by have := b.isLt; have := l.isLt; omega
  choose d hd1 hd2 using fun r : Fin 8192 => same_sq (fun k => X b k l) (E r) (u (ix1 r))
  have hk : ∀ r : Fin 8192, (k0_pay6 (slab (F := Ideal) x b) (k0_pay3 (F := Ideal) e v) (k0_pay4 (F := Ideal) e v) (ix2 r l) : EReal) = d r := by
    intro r
    refine (kernel_sq _ _ _ r l).trans ?_
    rw [← hd1 r]
    have h1 : ∀ k, (slab (F := Ideal) x b (ix3 0 k l) : EReal) = X b k l := fun k => hX b k l
    have h2 : ∀ k, (k0_pay3 (F := Ideal) e v (ix2 r k) : EReal) = entry (E r k) (u (ix1 r)) := fun k => by
      refine (kernel_code e v r k).trans ?_
      rw [hv, hE]
    have h3 : (k0_pay4 (F := Ideal) e v (ix2 r 0) : EReal) = ∑ k, entry (E r k) (u (ix1 r)) * entry (E r k) (u (ix1 r)) := by
      refine (kernel_norm e v r).trans ?_
      simp only [hv, hE]
    rw [h3]
    simp only [h1, h2]
  have hr : ∀ r : Fin 8192, (k0_pay5 (F := Ideal) (ix2 r 0) : EReal) = ((r.val : ℝ) : EReal) := fun r => kernel_row r
  have hdist : ∀ r : Fin 8192, (Cert.ReferenceIdeal.Nearest.distances x u e (ix2 ⟨b.val * 576 + l.val, hlt⟩ r) : EReal)
      = Ideal.sqrt (max (d r : EReal) 0) := by
    intro r
    refine (ref_dist x u e _ r).trans ?_
    have h1 : ∀ k, (Cert.ReferenceIdeal.Nearest.rows x (ix2 ⟨b.val * 576 + l.val, hlt⟩ k) : EReal) = X b k l :=
      fun k => (ref_rows x b l k hlt).trans (hX b k l)
    have h2 : ∀ k, (Cert.ReferenceIdeal.Nearest.codes u e (ix2 r k) : EReal) = entry (E r k) (u (ix1 r)) := fun k => by
      refine (ref_codes u e r k).trans ?_
      rw [hE]
    have h3 := ref_sq x u e ⟨b.val * 576 + l.val, hlt⟩ r
    simp only [h1, h2] at h3
    rw [h3.trans (hd2 r)]
  obtain ⟨k, hk1, hk2⟩ := best_spec (Cert.ReferenceIdeal.Nearest.distances x u e) ⟨b.val * 576 + l.val, hlt⟩
  refine Eq.trans ?_ ((ref_place (Cert.ReferenceIdeal.Nearest.best (Cert.ReferenceIdeal.Nearest.distances x u e)) b l).trans hk1).symm
  refine (answer_apply _ _ _ _ l).trans ?_
  refine (congrArg₂ pick (funext hk) (funext hr)).trans (pick_eq d k fun r => ?_)
  have := hk2 r
  rwa [hdist k, hdist r] at this

/-- **On real inputs the kernel's result array is the reference's.** -/
theorem value_eq (m : (ℓ : Loc nD τ sig) → Buf (Elt Ideal) ℓ) (c : Dev nD) (x : FVec Ideal S8x64x576 .f32) (u : FVec Ideal S8192 .f32)
    (e : FVec Ideal S8192x64 .f32) (ex : m ((c : Thread nD τ).loc main_arg0) = x) (eu : m ((c : Thread nD τ).loc main_arg1) = u)
    (ee : m ((c : Thread nD τ).loc main_arg2) = e)
    (hx : ∀ b k l, ∃ r : ℝ, (x (ix3 b k l) : EReal) = r) (he : ∀ r k, ∃ q : ℝ, (e (ix2 r k) : EReal) = q) :
    Value.G3 m c = Cert.ReferenceIdeal.Nearest.result x u e := by
  have hu : ∀ r : Fin 8192, usage m c (ix2 r 0) = u (ix1 r) := fun r => (usage_apply m c r).trans (congrFun eu _)
  have key : ∀ (b : Fin 8) (l : Fin 576), Value.G3 m c (ix3 b 0 l) = Cert.ReferenceIdeal.Nearest.result x u e (ix3 b 0 l) := by
    intro b l
    rw [out_eq]
    unfold carried
    rw [ex, ee]
    exact lane_eq x u e _ hu hx he b l
  funext i
  have hi : i = ix3 (i 0) 0 (i 2) := by
    funext a
    fin_cases a
    · rfl
    · exact Subsingleton.elim (α := Fin 1) _ _
    · rfl
  rw [hi]
  exact key (i 0) (i 2)

end

end Cert.Nearest

end
-- ==== Proof.lean ====
/-
  The proof of the certificate's claims: the frames of the three programs, the ideal program being the kernel's own
  text read over the extended reals, and the equality of the kernel's and the reference's results on finite inputs.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.KernelIdeal.Value
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- On finite inputs the kernel and the reference, over the extended reals, leave the same array. -/
theorem algebraic : algebraic_KernelIdeal_ReferenceIdeal_pre_finite_inputs := by
  intro m ρ m' ρ' hpre hagree
  refine ⟨Cert.KernelIdeal.Value.G3 m, Cert.KernelIdeal.Value.run m ρ, ?_⟩
  refine (θ_run Cert.ReferenceIdeal.defs _ _).mono (fun _ h c => ⟨(h c).1.trans ?_, (h c).2⟩) (Cert.ReferenceIdeal.Nearest.run m' ρ')
  obtain ⟨a0, a1, a2⟩ := hagree c
  obtain ⟨p0, p1⟩ := hpre c
  rw [← a0, ← a1, ← a2] at p0 p1
  exact (Cert.Nearest.value_eq m c _ _ _ a0.symm a1.symm a2.symm (Cert.Nearest.finite_x _ _ _ p0) (Cert.Nearest.finite_e _ _ _ p1)).symm

/-- Every claim of the certificate. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Nearest.frame m ρ,
  fun m ρ _ => Cert.ReferenceIdeal.Nearest.frame m ρ,
  trivial, algebraic⟩

end Cert.Proof

end
